-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x51 : Shape := ⟨2, ![16384, 51]⟩
abbrev S51x51 : Shape := ⟨2, ![51, 51]⟩
abbrev S51x16384 : Shape := ⟨2, ![51, 16384]⟩
abbrev S1x1 : Shape := ⟨2, ![1, 1]⟩
abbrev S4x51x2048 : Shape := ⟨3, ![4, 51, 2048]⟩
abbrev S4 : Shape := ⟨1, ![4]⟩
abbrev S1 : Shape := ⟨1, ![1]⟩
abbrev S_ : Shape := ⟨0, ![]⟩
abbrev S1x51x2048 : Shape := ⟨3, ![1, 51, 2048]⟩
abbrev S51x2048 : Shape := ⟨2, ![51, 2048]⟩
abbrev S1x1x1 : Shape := ⟨3, ![1, 1, 1]⟩

abbrev nBuf : Space → Nat
  | .hbm => 10
  | .vmem => 3
  | .smem => 1
  | _ => 0

abbrev bufTy : (tb : Table) → Fin (tcTables nBuf tb) → BufTy
  | .hbm, ⟨0, _⟩ => ⟨S16384x51, .f32⟩
  | .hbm, ⟨1, _⟩ => ⟨S16384x51, .f32⟩
  | .hbm, ⟨2, _⟩ => ⟨S51x51, .f32⟩
  | .hbm, ⟨3, _⟩ => ⟨S51x16384, .f32⟩
  | .hbm, ⟨4, _⟩ => ⟨S51x16384, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S51x51, .f32⟩
  | .local _ .vmem, ⟨1, _⟩ => ⟨S4x51x2048, .f32⟩
  | .local _ .vmem, ⟨2, _⟩ => ⟨S4x51x2048, .f32⟩
  | .local _ .smem, ⟨0, _⟩ => ⟨S1x1, .f32⟩
  | _, _ => ⟨S16384x51, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_stg1_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S51x51 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x51 : Shape := ⟨2, ![16384, 51]⟩
abbrev S51 : Shape := ⟨1, ![51]⟩
abbrev S1x51 : Shape := ⟨2, ![1, 51]⟩
abbrev S_ : Shape := ⟨0, ![]⟩
abbrev S16384x1 : Shape := ⟨2, ![16384, 1]⟩
abbrev S16384 : Shape := ⟨1, ![16384]⟩
abbrev S835584 : Shape := ⟨1, ![835584]⟩
abbrev S835584x1 : Shape := ⟨2, ![835584, 1]⟩

abbrev nBuf : Space → Nat
  | .hbm => 83
  | .vmem => 0
  | .smem => 0
  | _ => 0

abbrev bufTy : (tb : Table) → Fin (tcTables nBuf tb) → BufTy
  | .hbm, ⟨0, _⟩ => ⟨S16384x51, .f32⟩
  | .hbm, ⟨1, _⟩ => ⟨S16384x51, .f32⟩
  | .hbm, ⟨2, _⟩ => ⟨S51, .f32⟩
  | .hbm, ⟨3, _⟩ => ⟨S1x51, .f32⟩
  | .hbm, ⟨4, _⟩ => ⟨S_, .f32⟩
  | .hbm, ⟨5, _⟩ => ⟨S16384x1, .f32⟩
  | .hbm, ⟨6, _⟩ => ⟨S16384x51, .f32⟩
  | .hbm, ⟨7, _⟩ => ⟨S16384x51, .f32⟩
  | .hbm, ⟨8, _⟩ => ⟨S16384x51, .f32⟩
  | .hbm, ⟨9, _⟩ => ⟨S16384x51, .f32⟩
  | .hbm, ⟨10, _⟩ => ⟨S16384x51, .i32⟩
  | .hbm, ⟨11, _⟩ => ⟨S16384x51, .f32⟩
  | .hbm, ⟨12, _⟩ => ⟨S16384x51, .i32⟩
  | .hbm, ⟨13, _⟩ => ⟨S_, .i32⟩
  | .hbm, ⟨14, _⟩ => ⟨S16384x51, .i32⟩
  | .hbm, ⟨15, _⟩ => ⟨S16384x51, .i1⟩
  | .hbm, ⟨16, _⟩ => ⟨S16384x51, .i1⟩
  | .hbm, ⟨17, _⟩ => ⟨S16384x51, .i1⟩
  | .hbm, ⟨18, _⟩ => ⟨S_, .i32⟩
  | .hbm, ⟨19, _⟩ => ⟨S16384x51, .i32⟩
  | .hbm, ⟨20, _⟩ => ⟨S16384x51, .i32⟩
  | .hbm, ⟨21, _⟩ => ⟨S16384x51, .i32⟩
  | .hbm, ⟨22, _⟩ => ⟨S_, .i32⟩
  | .hbm, ⟨23, _⟩ => ⟨S16384x51, .i32⟩
  | .hbm, ⟨24, _⟩ => ⟨S16384x51, .i1⟩
  | .hbm, ⟨25, _⟩ => ⟨S16384x51, .i1⟩
  | .hbm, ⟨26, _⟩ => ⟨S16384x51, .i1⟩
  | .hbm, ⟨27, _⟩ => ⟨S_, .i32⟩
  | .hbm, ⟨28, _⟩ => ⟨S16384x51, .i32⟩
  | .hbm, ⟨29, _⟩ => ⟨S16384x51, .i32⟩
  | .hbm, ⟨30, _⟩ => ⟨S16384x51, .i32⟩
  | .hbm, ⟨31, _⟩ => ⟨S16384, .i32⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S_, .f32⟩
  | .hbm, ⟨37, _⟩ => ⟨S835584, .f32⟩
  | .hbm, ⟨38, _⟩ => ⟨S16384x51, .i32⟩
  | .hbm, ⟨39, _⟩ => ⟨S16384x51, .i32⟩
  | .hbm, ⟨40, _⟩ => ⟨S835584, .i32⟩
  | .hbm, ⟨41, _⟩ => ⟨S16384x51, .f32⟩
  | .hbm, ⟨42, _⟩ => ⟨S16384x51, .f32⟩
  | .hbm, ⟨43, _⟩ => ⟨S16384x51, .f32⟩
  | .hbm, ⟨44, _⟩ => ⟨S835584, .f32⟩
  | .hbm, ⟨45, _⟩ => ⟨S_, .i32⟩
  | .hbm, ⟨46, _⟩ => ⟨S835584, .i32⟩
  | .hbm, ⟨47, _⟩ => ⟨S835584, .i1⟩
  | .hbm, ⟨48, _⟩ => ⟨S_, .i32⟩
  | .hbm, ⟨49, _⟩ => ⟨S835584, .i32⟩
  | .hbm, ⟨50, _⟩ => ⟨S835584, .i32⟩
  | .hbm, ⟨51, _⟩ => ⟨S835584, .i32⟩
  | .hbm, ⟨52, _⟩ => ⟨S835584x1, .i32⟩
  | .hbm, ⟨53, _⟩ => ⟨S835584, .f32⟩
  | .hbm, ⟨54, _⟩ => ⟨S16384x51, .i32⟩
  | .hbm, ⟨55, _⟩ => ⟨S16384x51, .i32⟩
  | .hbm, ⟨56, _⟩ => ⟨S835584, .i32⟩
  | .hbm, ⟨57, _⟩ => ⟨S16384x51, .f32⟩
  | .hbm, ⟨58, _⟩ => ⟨S16384x51, .f32⟩
  | .hbm, ⟨59, _⟩ => ⟨S16384x51, .f32⟩
  | .hbm, ⟨60, _⟩ => ⟨S835584, .f32⟩
  | .hbm, ⟨61, _⟩ => ⟨S_, .i32⟩
  | .hbm, ⟨62, _⟩ => ⟨S835584, .i32⟩
  | .hbm, ⟨63, _⟩ => ⟨S835584, .i1⟩
  | .hbm, ⟨64, _⟩ => ⟨S_, .i32⟩
  | .hbm, ⟨65, _⟩ => ⟨S835584, .i32⟩
  | .hbm, ⟨66, _⟩ => ⟨S835584, .i32⟩
  | .hbm, ⟨67, _⟩ => ⟨S835584, .i32⟩
  | .hbm, ⟨68, _⟩ => ⟨S835584x1, .i32⟩
  | .hbm, ⟨69, _⟩ => ⟨S835584, .f32⟩
  | .hbm, ⟨70, _⟩ => ⟨S16384x51, .f32⟩
  | .hbm, ⟨71, _⟩ => ⟨S_, .f32⟩
  | .hbm, ⟨72, _⟩ => ⟨S16384x51, .f32⟩
  | .hbm, ⟨73, _⟩ => ⟨S16384x51, .f32⟩
  | .hbm, ⟨74, _⟩ => ⟨S16384x51, .f32⟩
  | .hbm, ⟨75, _⟩ => ⟨S16384x51, .f32⟩
  | .hbm, ⟨76, _⟩ => ⟨S_, .f32⟩
  | .hbm, ⟨77, _⟩ => ⟨S16384, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S16384x51, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_c_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_8 : Ref sig .tc := ⟨.hbm, 61, rfl⟩
abbrev main_v49 : Ref sig .tc := ⟨.hbm, 62, rfl⟩
abbrev main_v50 : Ref sig .tc := ⟨.hbm, 63, rfl⟩
abbrev main_c_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_11 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Proof.RefRun.lean ====
/- The reference's run. -/
module

public import proofs.«01_k».proof.Proof.Gen.ReferenceIdeal.Run

@[expose] public section
end
-- ==== Proof.Slots.lean ====
/- Reading one plane of a four-plane scratch buffer after planes of it were filled: a plane just filled reads back what
   filled it, and filling another plane leaves it alone. -/
module

public import proofs.«01_k».proof.Proof.Gen.KernelIdeal.Skeleton
public import Idealize.ShloMosaic.Lib.ViewIndex
public import Idealize.ShloMosaic.Lib.Exec.Geometry

@[expose] public section

namespace Cert.KernelIdeal.Slots

open Idealize.ShloMosaic Cert.KernelIdeal.Gen

variable {Val : EltTy → Type} {sp : Space}

/-- The place of plane `k` in the scratch: all of the last two axes at position `k` of the first. -/
abbrev plane (k : ℕ) (h : ∀ a : Fin 3, (![k, 0, 0] : Fin 3 → ℕ) a + (![1, 51, 2048] : Fin 3 → ℕ) a ≤ S4x51x2048.size a) : Rect S4x51x2048 :=
  Rect.unit (s := S4x51x2048) ![k, 0, 0] ![1, 51, 2048] h

/-- Two different planes have no position in common. -/
theorem plane_disjoint {k k' : ℕ} (hk : k ≠ k') (h : ∀ a : Fin 3, (![k, 0, 0] : Fin 3 → ℕ) a + (![1, 51, 2048] : Fin 3 → ℕ) a ≤ S4x51x2048.size a)
    (h' : ∀ a : Fin 3, (![k', 0, 0] : Fin 3 → ℕ) a + (![1, 51, 2048] : Fin 3 → ℕ) a ≤ S4x51x2048.size a) :
    Disjoint (plane k h).set (plane k' h').set := by
  refine Finset.disjoint_left.mpr fun i hi hi' => hk ?_
  have a := Rect.mem_set_unit.mp hi 0
  have b := Rect.mem_set_unit.mp hi' 0
  simp only [Matrix.cons_val_zero] at a b
  omega

/-- A plane filled through its two-axis view with `w`, then loaded, is `w` with a leading axis of one. -/
theorem load_filled (v : View sig .tc sp S4x51x2048 .f32) {k : ℕ}
    (h : ∀ a : Fin 3, (![k, 0, 0] : Fin 3 → ℕ) a + (![1, 51, 2048] : Fin 3 → ℕ) a ≤ S4x51x2048.size a)
    (h' : ∀ a : Fin 3, (![k, 0, 0] : Fin 3 → ℕ) a + (![1, 51, 2048] : Fin 3 → ℕ) a ≤ S4x51x2048.size a)
    (hq : S51x2048.numel = (plane k h').shape.numel)
    (f : v.ty.Contents Val) (w : S51x2048.Idx → Val .f32) :
    View.readAt Val v (plane k h).toLoadRect
        (View.write Val ((v.slice (plane k h')).reshape S51x2048 hq) f w Finset.univ)
      = shapeCast S1x51x2048 w shapeCasts_S51x2048_S1x51x2048 := by
  funext x
  have e := View.read_write_reshape (Val := Val) (v := v.slice (plane k h')) hq f w
    ((Shape.reshapeEquiv hq).symm x)
  rw [Equiv.apply_symm_apply] at e
  refine Eq.trans e ?_
  unfold shapeCast
  exact congrArg w ((Equiv.symm_apply_eq _).mpr (by
    rw [Shape.reshapeEquiv_reshapeEquiv]; exact (Shape.reshapeEquiv_self _ x).symm))

/-- Filling plane `k'` does not change what a load of another plane `k` reads. -/
theorem load_other (v : View sig .tc sp S4x51x2048 .f32) {k k' : ℕ} (hk : k ≠ k')
    (h : ∀ a : Fin 3, (![k, 0, 0] : Fin 3 → ℕ) a + (![1, 51, 2048] : Fin 3 → ℕ) a ≤ S4x51x2048.size a)
    (h' : ∀ a : Fin 3, (![k', 0, 0] : Fin 3 → ℕ) a + (![1, 51, 2048] : Fin 3 → ℕ) a ≤ S4x51x2048.size a)
    (hq : S51x2048.numel = (plane k' h').shape.numel)
    (f : v.ty.Contents Val) (w : S51x2048.Idx → Val .f32) :
    View.readAt Val v (plane k h).toLoadRect
        (View.write Val ((v.slice (plane k' h')).reshape S51x2048 hq) f w Finset.univ)
      = View.readAt Val v (plane k h).toLoadRect f := by
  rw [View.readAt_rect, View.readAt_rect]
  refine View.read_congr fun i hi => View.write_of_not_mem _ _ _ fun hi' => ?_
  have hd := View.disjoint_slice (v := v) (plane_disjoint hk h h')
  refine Finset.disjoint_left.mp hd hi ?_
  rw [← View.set_reshape (v := v.slice (plane k' h')) (h := hq)]; exact hi'

end Cert.KernelIdeal.Slots

end
-- ==== Proof.Chunks.lean ====
/- The number the kernel's body stores, as a function of what it reads: the 51 x 51 matrix and the two transposed
   inputs, cut in eight chunks of 2048 columns. -/
module

public import proofs.«01_k».proof.Proof.Gen.KernelIdeal.Skeleton

@[expose] public section

noncomputable section

namespace Cert.KernelIdeal.Chunks

open Idealize.ShloMosaic Cert.KernelIdeal.Gen

variable {F : FTy → Type} [FloatOps F]

/-- The 2048 columns of a 51 x 16384 array that start at column `o`. -/
def cols (o : ℕ) (h : ∀ a : Fin 2, (![0, o] : Fin 2 → ℕ) a + S51x2048.size a ≤ S51x16384.size a) (A : Vec F S51x16384 .f32) :
    Vec F S51x2048 .f32 :=
  fun y => A ((Rect.unit (s := S51x16384) ![0, o] S51x2048.size h).emb y)

/-- The same columns with a leading axis of one, the form the body loads them in. -/
def slab (o : ℕ) (h : ∀ a : Fin 2, (![0, o] : Fin 2 → ℕ) a + S51x2048.size a ≤ S51x16384.size a) (A : Vec F S51x16384 .f32) :
    Vec F S1x51x2048 .f32 :=
  shapeCast S1x51x2048 (cols o h A) shapeCasts_S51x2048_S1x51x2048

/-- The running sum after the eight chunks. -/
def total (P : Vec F S51x51 .f32) (A B : Vec F S51x16384 .f32) : F .f32 :=
  k0_pay1
    (k0_pay12
      (k0_pay10
        (k0_pay8
          (k0_pay7
            (k0_pay4
              (k0_pay3
                (k0_pay2 (slab 0 (by decide) B) P (slab 0 (by decide) A))
                (slab 2048 (by decide) B) P (slab 2048 (by decide) A))
              (slab 4096 (by decide) B) P (slab 4096 (by decide) A))
            (k0_pay5 (slab 6144 (by decide) B)) P (k0_pay6 (slab 6144 (by decide) A)))
          (slab 8192 (by decide) B) P (slab 8192 (by decide) A))
        (k0_pay9 (slab 10240 (by decide) B)) P (slab 10240 (by decide) A))
      (k0_pay11 (slab 12288 (by decide) B) P (slab 12288 (by decide) A)))
    (k0_pay13 (slab 14336 (by decide) B) P (slab 14336 (by decide) A))

end Cert.KernelIdeal.Chunks

end
-- ==== Proof.Body.lean ====
/- One run of the kernel's body: started on whole buffers it ends with the running sum `Chunks.total` in the output cell
   and everything it only reads as it was. -/
module

public import proofs.«01_k».proof.Proof.Gen.KernelIdeal.Launch
public import proofs.«01_k».proof.Proof.Gen.KernelIdeal.Points
public import proofs.«01_k».proof.Proof.Slots
public import proofs.«01_k».proof.Proof.Chunks
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.VecWindow
public import Idealize.ShloMosaic.Lib.WholeRead

@[expose] public section

set_option maxRecDepth 16384

noncomputable section

namespace Cert.KernelIdeal.Body

open Cert.KernelIdeal.Gen Cert.KernelIdeal.Chunks Cert.KernelIdeal.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two scratch buffers, whole. -/
abbrev scratchA : Memref sig .tc .vmem S4x51x2048 .f32 := Memref.whole cc0_scratch0
abbrev scratchB : Memref sig .tc .vmem S4x51x2048 .f32 := Memref.whole cc0_scratch1
/-- The two transposed inputs the body copies from, whole. -/
abbrev srcA : Memref sig .tc .hbm S51x16384 .f32 := Memref.whole main_v0
abbrev srcB : Memref sig .tc .hbm S51x16384 .f32 := Memref.whole main_v1
/-- The contents of the buffer behind a memref, on core `c`. -/
abbrev Held (c : Dev nD) {sp : Space} {S : Shape} {e : EltTy} (M : Memref sig .tc sp S e) : Type := Buf (Elt F) (M.view.loc (c : Thread nD τ))
/-- The whole buffer behind a memref, held at contents `f`. -/
abbrev held (c : Dev nD) {sp : Space} {S : Shape} {e : EltTy} (M : Memref sig .tc sp S e) (f : Held (F := F) c M) : sProp 𝕄 :=
  M.view.loc (c : Thread nD τ) ↦{fullShare} f

/-- The eight counters the body waits on, all at zero. -/
abbrev idle (c : Dev nD) : sProp 𝕄 :=
  iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)

set_option maxHeartbeats 2048000 in set_option sl_exec.dmaWindow true in set_option sl_exec.dmaWindowSet true in
/-- The body, run on the matrix `x0` and the transposed inputs `fA`, `fB`, ends with `total x0 fA fB` in its output cell. -/
theorem body_run (c : Dev nD) (arg0 : Memref sig .tc .vmem S51x51 .f32) (harg0 : arg0.IsWhole) (arg3 : Memref sig .tc .smem S1x1 .f32) (harg3 : arg3.IsWhole) (arg4 : Memref sig .tc .vmem S4x51x2048 .f32) (harg4 : arg4.IsWhole) (arg5 : Memref sig .tc .vmem S4x51x2048 .f32) (harg5 : arg5.IsWhole)
    (x0 : Vec F S51x51 .f32) (fA : Held (F := F) c srcA) (fB : Held (F := F) c srcB) (W : Waits sig Unit) (K : PUnit → sProp 𝕄) :
    iprop(owns (c : Thread nD τ) arg0 fullShare x0 ∗ (∃ d, owns (c : Thread nD τ) arg3 fullShare d) ∗ (∃ d, owns (c : Thread nD τ) arg4 fullShare d) ∗ (∃ d, owns (c : Thread nD τ) arg5 fullShare d) ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ held c srcA fA ∗ held c srcB fB ∗ owes (c : Thread nD τ) 0 W
        ∗ (iprop(owns (c : Thread nD τ) arg0 fullShare x0 ∗ owns (c : Thread nD τ) arg3 fullShare (fun _ => total x0 fA fB) ∗ (∃ d, owns (c : Thread nD τ) arg4 fullShare d) ∗ (∃ d, owns (c : Thread nD τ) arg5 fullShare d) ∗ idle c ∗ held c srcA fA ∗ held c srcB fB ∗ (∃ W', owes (c : Thread nD τ) 0 W')) -∗ K ⟨⟩))
      ⊢ wp frame (wpE (defs₀ (F := F)) Variants.none c none) Set.univ (cc0__pipe_kernel arg0 harg0 (Memref.whole main_v0) (Memref.isWhole_whole _) (Memref.whole main_v1) (Memref.isWhole_whole _) arg3 harg3 arg4 harg4 arg5 harg5 cc0_scratch2 cc0_scratch3) K := by
  simp only [cc0__pipe_kernel_eq_skeleton]; unfold cc0__pipe_kernel_skel
  simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%d1, %f1, -, H1⟩, ⟨%ds0, %fs0, -, HS0⟩, ⟨%ds1, %fs1, -, HS1⟩, Hq0, Hq1, Hq2, Hq3, Hq4, Hq5, Hq6, Hq7, HA, HB, HW, Hk⟩
  obtain rfl := harg0.eq_unread hf0
  sl_exec
  sl_step
  iapply Hk
  isplitl [H0]
  · iexists _; isplitr; · ipureintro; exact harg0.read_unread _
    iexact H0
  isplitl [H1]
  · iexists _; isplitr; swap; · iexact H1
    ipureintro
    refine (View.read_writes_full _ _ _ _ _).trans ?_
    have eP (h) : View.readAt (Elt F) arg0.view (Rect.unit (s := S51x51) ![0, 0] ![51, 51] h).toLoadRect (harg0.unread x0) = x0 :=
      (View.readAt_full _ _ _).trans (harg0.read_unread _)
    sl_unfold_words
    funext _
    simp only [load_filled, load_other _ (show (0:ℕ) ≠ 1 by decide), load_other _ (show (0:ℕ) ≠ 2 by decide), load_other _ (show (0:ℕ) ≠ 3 by decide),
      load_other _ (show (1:ℕ) ≠ 0 by decide), load_other _ (show (1:ℕ) ≠ 2 by decide), load_other _ (show (1:ℕ) ≠ 3 by decide),
      load_other _ (show (2:ℕ) ≠ 0 by decide), load_other _ (show (2:ℕ) ≠ 1 by decide), load_other _ (show (2:ℕ) ≠ 3 by decide),
      load_other _ (show (3:ℕ) ≠ 0 by decide), load_other _ (show (3:ℕ) ≠ 1 by decide), load_other _ (show (3:ℕ) ≠ 2 by decide),
      eP]
    rfl
  isplitl [HS0]
  · iexists _, _; isplitr; swap; · iexact HS0
    ipureintro; rfl
  isplitl [HS1]
  · iexists _, _; isplitr; swap; · iexact HS1
    ipureintro; rfl
  isplitl [Hq0 Hq1 Hq2 Hq3 Hq4 Hq5 Hq6 Hq7]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    iexact Hq7
  isplitl [HA]; · iexact HA
  isplitl [HB]; · iexact HB
  iexists _; iexact HW

end Cert.KernelIdeal.Body

end
-- ==== Proof.Launch.lean ====
/- The kernel's run from start to end: every execution ends with the result `finish (total …)` of the two transposed
   arguments, the arguments as they were, and every counter at zero. -/
module

public import proofs.«01_k».proof.Proof.Gen.KernelIdeal.Frame
public import proofs.«01_k».proof.Proof.Body
public import Idealize.ShloMosaic.Lib.Pipeline.ValueKit
public import Idealize.ShloMosaic.Lib.Claim

@[expose] public section

set_option maxRecDepth 16384

noncomputable section

namespace Cert.KernelIdeal.Body

open Cert.KernelIdeal.Gen Cert.KernelIdeal.Chunks
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The whole program is the host lines before the region, the region, and the host lines after it. -/
theorem around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The buffers the two windows are staged in. -/
abbrev stage0 (t : Fin cfg0.N) : Memref sig .tc .vmem S51x51 .f32 := win0_0.stage (cfg0.slots t 0)
abbrev stage1 (t : Fin cfg0.N) : Memref sig .tc .smem S1x1 .f32 := win0_1.stage (cfg0.slots t 1)

/-- The eight counters of the body's own copies. -/
abbrev ownSem : Fin 8 → SemLoc sig := fun j => (![SemLoc.dma 2, SemLoc.dma 3, SemLoc.dma 4, SemLoc.dma 5, SemLoc.dma 6, SemLoc.dma 7, SemLoc.dma 8, SemLoc.dma 9] : Fin 8 → SemLoc sig) j
theorem ownSem_facts : Pipeline.OwnSemFacts spec0 ownSem := by decide

/-- Those counters at zero, one by one. -/
theorem ownSems_eq (c : Dev nD) :
    (Pipeline.ownSems0 (Ix := Unit) (Name := ℕ) (U := Pipeline.UD sig nD τ) (Lvl := ℕ) (Val := Elt F) (τ := τ) ownSem c : sProp 𝕄) = idle c := by
  rw [Pipeline.ownSems0_eq_of_list c ownSem [0, 1, 2, 3, 4, 5, 6, 7] (by decide) (by decide)]; rfl

/-- The two buffers the body copies from. -/
def sources : Finset (Ref sig .tc) := {main_v0, main_v1}
theorem sources_sub : sources ⊆ Pipeline.restRefs sig spec0 := by decide

/-- The host lines after the region use neither of them. -/
theorem tail_avoids : ∀ ops ∈ ([hostOps1] : List (List (HloOp τ sig (Elt F)))), ∀ op ∈ ops,
    op.bufs ⊆ Pipeline.tailRefsBut sig Pipeline.Prefetch.none spec0 sources := by
  intro ops hops op hop
  simp only [List.mem_cons, List.mem_nil_iff, or_false] at hops
  rcases hops with rfl
  refine Pipeline.sub_tailRefsBut Pipeline.Prefetch.none spec0 sources op ((List.forall_iff_forall_mem.mp hostOps1_sub) op hop) (fun j => j.elim0) ?_
  simp only [hostOps1, List.mem_cons, List.mem_nil_iff, or_false] at hop
  rcases hop with rfl | rfl | rfl | rfl
  all_goals intro b hb; simp only [sources, Finset.mem_insert, Finset.mem_singleton] at hb
  all_goals rcases hb with rfl | rfl <;>
    simp only [StableHlo.nullary_bufs, StableHlo.unary_bufs, StableHlo.binary_bufs, StableHlo.reshape_bufs, Finset.mem_insert, Finset.mem_singleton, not_or] <;> and_intros <;> exact StableHlo.devRef_ne_of_ne (by decide)

/-- The two sources held at what the region finds in them. -/
theorem sources_eq (c : Dev nD) :
    (bigSep sources (fun b => ((c : Thread nD τ).loc b) ↦{fullShare} V m c b) : sProp 𝕄) = iprop(held c srcA (V m c main_v0) ∗ held c srcB (V m c main_v1)) := by
  rw [BI.bigSep_eq_bigSepL_of_eq [main_v0, main_v1] (by decide) (by decide)]; rfl

/-- What the region keeps between its steps, part by part. -/
theorem kept_eq (c : Dev nD) :
    (Pipeline.ΦD ownSem spec0 sources (V m) c : sProp 𝕄)
      = iprop(iprop((∃ d, owns (c : Thread nD τ) scratchA fullShare d) ∗ (∃ d, owns (c : Thread nD τ) scratchB fullShare d)) ∗ (∃ r, prngReg c r) ∗ idle c ∗ iprop(held c srcA (V m c main_v0) ∗ held c srcB (V m c main_v1))) := by
  rw [Pipeline.ΦD_eq, scopedRest0_eq, ownSems_eq, sources_eq]; simp only [scratchA, scratchB, owns_whole]; try rfl

/-- What the body stores, from what the region finds. -/
def stored (c : Dev nD) (t : Fin cfg0.N) : F .f32 := total (iblk m c 0 t) (V m c main_v0) (V m c main_v1)

/-- The proof data of the one region: the matrix stays, the output cell holds `stored`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => fun _ => stored m c t
  Φ _ := Pipeline.ΦD ownSem spec0 sources (V m) c
  q _ := fullShare
  owed _ := 0

theorem A_eq (c : Dev nD) (w : Fin cfg0.W) : (dats m 0 c).A w = V m c (Pipeline.arrRef spec0 w) := by dsimp only [dats]
theorem after_in (c : Dev nD) (t : Fin cfg0.N) : (dats m 0 c).after 0 t = iblk m c 0 t := by dsimp only [dats]
theorem after_out (c : Dev nD) (t : Fin cfg0.N) : (dats m 0 c).after 1 t = fun _ => stored m c t := by dsimp only [dats]

/-- The matrix is in its buffer before the body runs. -/
theorem before_in (c : Dev nD) (t : Fin cfg0.N) (d) : (dats m 0 c).before 0 t d = iblk m c 0 t :=
  ((dats m 0 c).before_in_eq_fetched 0 rfl (fun _ => rfl) (fun _ _ _ => rfl) (fun t => by rw [after_in]; unfold Dat.blockOf iblk; rw [A_eq]) t d).trans
    (by unfold Dat.fetched Dat.blockOf iblk; rw [A_eq]; try rfl)

/-- What the body is given at a step. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d)))

/-- What it gives back. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t))

/-- The body takes the one to the other. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl, after_in, after_out]
  rw [show (dats m 0 c).Φ t.castSucc = Pipeline.ΦD ownSem spec0 sources (V m) c from rfl, kept_eq]
  unfold Dat.owesAt Pipeline.owesWithin stored
  rw [show (dats m 0 c).owed t.castSucc = 0 from rfl, show (dats m 0 c).owed t.succ = 0 from rfl]
  iintro ⟨⟨⟨HS0, HS1⟩, Hg, ⟨Hq0, Hq1, Hq2, Hq3, Hq4, Hq5, Hq6, Hq7⟩, ⟨HA, HB⟩⟩, ⟨%W, -, HW⟩, ⟨%d0, H0⟩, ⟨%d1, H1⟩⟩
  iapply (body_run c _ _ _ _ _ _ _ _ (iblk m c 0 t) (V m c main_v0) (V m c main_v1) W _)
  isplitl [H0]; · iexact H0
  isplitl [H1]; · iexists _; iexact H1
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HA]; · iexact HA
  isplitl [HB]; · iexact HB
  isplitl [HW]; · iexact HW
  iintro ⟨H0, H1, HS0, HS1, Hq, HA, HB, ⟨%W', HW'⟩⟩
  isplitl [HS0 HS1 Hg Hq HA HB]
  · isplitl [HS0 HS1]
    · isplitl [HS0]; · iexact HS0
      iexact HS1
    isplitl [Hg]; · iexact Hg
    isplitl [Hq]; · iexact Hq
    isplitl [HA]; · iexact HA
    iexact HB
  isplitl [HW']
  · iexists W'; isplitr; · ipureintro; exact fun _ _ => Or.inl trivial
    iexact HW'
  isplitl [H0]; · iexact H0
  iexact H1

/-- The table's entry for the body is the body. -/
theorem body_row (t : Fin cfg0.N) :
    defs₀ (F := F) .tc cfg0.body (cfg0.bodyArgs t (cfg0.slots t)) = bodyAt0 t := by
  unfold defs₀; rw [Defs.onTc_tc]

/-- What the launch asks of the body. -/
theorem body_ok (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
set_option maxHeartbeats 800000 in
/-- The launch: it ends with every array at what the proof data say and every counter at zero. -/
theorem launched : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 ownSem defs₀ Variants.none ownSem_facts sources sources_sub m ρ main
    (hbody := fun c => (body_ok m c).loose) (hshare := fun c => (dats m 0 c).share_full fun _ => rfl)
    (howed := fun _ _ => rfl) (V₀ := V0 m) (opss := [hostOps1]) (hsub := tail_avoids) (hfresh := sfx_fresh) (hkeep := sfx_keeps)
    (hmain := around m Variants.none) (hA := A_eq m) (hin := fun _ => .rfl) (hout := fun _ => .rfl)

end Cert.KernelIdeal.Body

end
-- ==== Proof.Result.lean ====
/- The kernel's result as a term of its two arguments, at any number format. -/
module

public import proofs.«01_k».proof.Proof.Launch

@[expose] public section

set_option maxRecDepth 16384

noncomputable section

namespace Cert.KernelIdeal.Body

open Cert.KernelIdeal.Gen Cert.KernelIdeal.Chunks
open Idealize.ShloMosaic Idealize.ShloMosaic.TcCoe Idealize.ShloMosaic.Tactic
open Idealize.SL.Sem

variable {F : FTy → Type} [FloatOps F]

variable (m : (ℓ : Loc nD τ sig) → Buf (Elt F) ℓ) (ρ : Dev nD → PrngReg)

/-- The constant matrix of the program. -/
def matrix : Vec F S51x51 .f32 := fun i => FloatOps.ofBits .f32 (lit0 (S51x51.rowMajor i))

/-- An argument with its rows and columns exchanged. -/
def turned (A : Vec F S16384x51 .f32) : Vec F S51x16384 .f32 := transpose S51x16384 [1, 0] A transposes_S16384x51_S51x16384_1_0

/-- The last three lines of the program: the total over the number of rows, negated. -/
def finish (x : F .f32) : Vec F S_ .f32 :=
  Host.negf (Host.divf (shapeCast S_ (fun _ => x : Vec F S1x1 .f32) shapeCasts_S1x1_S_) (constant S_ .f32 0x46800000#32))

/-- What the program computes from its arguments. -/
def outcome (A B : Vec F S16384x51 .f32) : Vec F S_ .f32 := finish (total matrix (turned A) (turned B))

/-- The region finds the constant matrix in the first window's array. -/
theorem V_cst (c : Dev nD) : V m c main_cst = matrix := by
  show StableHlo.after hostOps0 (fun b => m (c, b)) (Proc.devRef .tc main_cst) = _
  after_results
  rfl

/-- It finds the first argument, turned, in the first source. -/
theorem V_v0 (c : Dev nD) : V m c main_v0 = turned (m ((c : Thread nD τ).loc main_arg0)) := by
  show StableHlo.after hostOps0 (fun b => m (c, b)) (Proc.devRef .tc main_v0) = _
  after_results
  rfl

/-- It finds the second argument, turned, in the second source. -/
theorem V_v1 (c : Dev nD) : V m c main_v1 = turned (m ((c : Thread nD τ).loc main_arg1)) := by
  show StableHlo.after hostOps0 (fun b => m (c, b)) (Proc.devRef .tc main_v1) = _
  after_results
  rfl

/-- The first window's block is the whole matrix. -/
theorem iblk_cst (c : Dev nD) : iblk m c 0 t0_0 = matrix := by
  have e : iblk m c 0 t0_0 = V m c main_cst := by
    funext j
    refine congrArg (V m c main_cst) ?_
    funext a
    refine Fin.ext ?_
    have z : ∀ a, win0_0.index t0_0 a = 0 := by decide +kernel
    fin_cases a <;> blk_simp <;> rw [z] <;> exact (Nat.zero_mul 51).symm ▸ Nat.zero_add _
  rw [e, V_cst]

/-- The output array after the region. -/
theorem out_array (c : Dev nD) : (dats m 0 c).arrAt 1 cfg0.N = fun _ => stored m c t0_0 := by
  refine (dats m 0 c).arrAt_eq_of_after_last 1 t0_0 (by decide +kernel) _ fun j => ?_
  blk_simp
  rw [after_out]

/-- The value stored, from the arguments. -/
theorem stored_eq (c : Dev nD) : stored m c t0_0
    = total matrix (turned (m ((c : Thread nD τ).loc main_arg0))) (turned (m ((c : Thread nD τ).loc main_arg1))) := by
  rw [stored, iblk_cst, V_v0, V_v1]

/-- The first argument is untouched by the lines after the region. -/
theorem after_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- So is the second. -/
theorem after_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The result buffer after the last line. -/
theorem after_v5 (c : Dev nD) :
    Pipeline.afterTail₀ cfgs (dats m) 0 (V0 m) [hostOps1] c main_v5
      = outcome (m ((c : Thread nD τ).loc main_arg0)) (m ((c : Thread nD τ).loc main_arg1)) := by
  show StableHlo.after hostOps1 _ (Proc.devRef .tc main_v5) = _
  after_results
  have e := (Pipeline.withArrays_arr spec0 (by decide) c (V0 m c) (fun w => (dats m 0 c).arrAt w cfg0.N) 1).trans (out_array m c)
  rw [stored_eq] at e
  unfold outcome finish
  exact congrArg (fun x => Host.negf (Host.divf (shapeCast S_ x shapeCasts_S1x1_S_) (constant S_ .f32 0x46800000#32))) e

/-- The run: the result is `outcome` of the arguments, the arguments are as launched, and every counter is at zero. -/
theorem run : θ_run defs (onTc (τ := τ) (main (F := F))) ⟨m, fun _ => 0, ρ⟩ (fun r =>
    (∀ c : Dev nD, r.2.mem ((c : Thread nD τ).loc main_v5) = outcome (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c =>
    ⟨((h.1 c).2 main_v5 (Pipeline.mem_restRefs_of main_v5 (by decide) (by decide))).trans (after_v5 m c),
     ((h.1 c).2 main_arg0 (Pipeline.mem_restRefs_of main_arg0 (by decide) (by decide))).trans (after_arg0 m c),
     ((h.1 c).2 main_arg1 (Pipeline.mem_restRefs_of main_arg1 (by decide) (by decide))).trans (after_arg1 m c)⟩, h.2⟩)
    (launched m ρ)

/-- The part of it that speaks of the arguments and the counters alone. -/
theorem run_kept : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => (h.1 c).2, h.2⟩) (run m ρ)

end Cert.KernelIdeal.Body

end
-- ==== Proof.KernelRun.lean ====
/- The kernel as printed runs: it is the same text as the program `Cert.KernelIdeal`, so that program's run, which holds
   at every number format, is its own. -/
module

public import proofs.«01_k».proof.Proof.Result
public import proofs.«01_k».proof.Proof.Gen.Kernel
public import proofs.«01_k».proof.Defs

@[expose] public section

set_option maxRecDepth 16384

noncomputable section

namespace Cert.Kernel.Same

open Idealize.ShloMosaic Idealize.ShloMosaic.TcCoe Idealize.SL.Sem

variable {F : FTy → Type} [FloatOps F]

/-- The two programs have the same kernel body in their tables. -/
theorem bodies_same : @Cert.Kernel.defs₀ F _ _ = @Cert.KernelIdeal.defs₀ F _ _ := by
  funext κ ℓ x
  unfold Cert.Kernel.defs₀ Cert.KernelIdeal.defs₀
  cases κ with
  | tc =>
    rw [Defs.onTc_tc, Defs.onTc_tc]
    fin_cases ℓ
    rfl
  | _ => rfl

/-- They have the same tables. -/
theorem tables_same : @Cert.Kernel.defs F _ _ = @Cert.KernelIdeal.defs F _ _ := by
  unfold Cert.Kernel.defs Cert.KernelIdeal.defs
  rw [bodies_same]
  rfl

/-- They have the same entry. -/
theorem entries_same : @Cert.Kernel.main F _ _ = @Cert.KernelIdeal.main F _ _ := rfl

/-- Every execution ends with the arguments as they were and every counter at zero. -/
theorem quiescent : Cert.quiescent_Kernel (hKernel := Cert.Kernel.Gen.facts) := by
  intro m g _
  rw [tables_same, entries_same]
  exact Cert.KernelIdeal.Body.run_kept (F := Bits) m g

end Cert.Kernel.Same

end
-- ==== Proof.KernelSum.lean ====
/- The kernel's total over the extended reals: one sum over the rows and columns of its arguments. -/
module

public import proofs.«01_k».proof.Proof.Result
public import Idealize.ShloMosaic.Lib.Pointwise
public import Idealize.ShloMosaic.Lib.IdealHost

@[expose] public section

set_option maxRecDepth 16384

noncomputable section

namespace Cert.KernelIdeal.Total

open Cert.KernelIdeal Cert.KernelIdeal.Gen Cert.KernelIdeal.Chunks Cert.KernelIdeal.Body
open Idealize.ShloMosaic Idealize.ShloMosaic.Pointwise
open scoped BigOperators

/-- The small constant added before the logarithm. -/
abbrev eps : EReal := Ideal.ofBits .f32 0x24E69595#32

/-- One chunk's sum: over its rows and columns, the projected anchor times the logarithm of the feature. -/
def part (P : FVec Ideal S51x51 .f32) (a f : FVec Ideal S1x51x2048 .f32) : EReal :=
  ∑ k : Fin 51, ∑ n : Fin 2048, (∑ j : Fin 51, P (ix2 k j) * a (ix3 0 j n)) * Ideal.log (f (ix3 0 k n) + eps)

/-- Each stage of the body adds one chunk's sum to what it is given. -/
theorem pay3_eq (acc : EReal) (f : FVec Ideal S1x51x2048 .f32) (P : FVec Ideal S51x51 .f32) (a : FVec Ideal S1x51x2048 .f32) :
    k0_pay3 (F := Ideal) acc f P a = acc + part P a f := by
  pointwise [k0_pay3, part]

/-- The first stage starts from zero. -/
theorem pay2_eq (f : FVec Ideal S1x51x2048 .f32) (P : FVec Ideal S51x51 .f32) (a : FVec Ideal S1x51x2048 .f32) : k0_pay2 (F := Ideal) f P a = part P a f := by
  pointwise [k0_pay2, part]

theorem pay4_eq (acc : EReal) (f : FVec Ideal S1x51x2048 .f32) (P : FVec Ideal S51x51 .f32) (a : FVec Ideal S1x51x2048 .f32) :
    k0_pay4 (F := Ideal) acc f P a = acc + part P a f := by
  pointwise [k0_pay4, part]

theorem pay7_eq (acc : EReal) (f : FVec Ideal S1x51x2048 .f32) (P : FVec Ideal S51x51 .f32) (a : FVec Ideal S1x51x2048 .f32) :
    k0_pay7 (F := Ideal) acc (k0_pay5 (F := Ideal) f) P (k0_pay6 (F := Ideal) a) = acc + part P a f := by
  pointwise [k0_pay7, k0_pay5, k0_pay6, part]

theorem pay8_eq (acc : EReal) (f : FVec Ideal S1x51x2048 .f32) (P : FVec Ideal S51x51 .f32) (a : FVec Ideal S1x51x2048 .f32) :
    k0_pay8 (F := Ideal) acc f P a = acc + part P a f := by
  pointwise [k0_pay8, part]

theorem pay10_eq (acc : EReal) (f : FVec Ideal S1x51x2048 .f32) (P : FVec Ideal S51x51 .f32) (a : FVec Ideal S1x51x2048 .f32) :
    k0_pay10 (F := Ideal) acc (k0_pay9 (F := Ideal) f) P a = acc + part P a f := by
  pointwise [k0_pay10, k0_pay9, part]

theorem pay12_eq (acc : EReal) (f : FVec Ideal S1x51x2048 .f32) (P : FVec Ideal S51x51 .f32) (a : FVec Ideal S1x51x2048 .f32) :
    k0_pay12 (F := Ideal) acc (k0_pay11 (F := Ideal) f P a) = acc + part P a f := by
  pointwise [k0_pay12, k0_pay11, part]

theorem pay1_eq (acc : EReal) (f : FVec Ideal S1x51x2048 .f32) (P : FVec Ideal S51x51 .f32) (a : FVec Ideal S1x51x2048 .f32) :
    k0_pay1 (F := Ideal) acc (k0_pay13 (F := Ideal) f P a) = acc + part P a f := by
  pointwise [k0_pay1, k0_pay13, part]

/-- A chunk of columns read at an index. -/
theorem slab_at (o : ℕ) (h) (A : FVec Ideal S51x16384 .f32) (k : Fin 51) (n : Fin 2048) (ho : o + n.val < 16384) :
    slab (F := Ideal) o h A (ix3 0 k n) = A (ix2 k ⟨o + n.val, ho⟩) := by
  unfold slab
  pointwise
  unfold cols
  refine congrArg A ?_
  funext a
  refine Fin.ext ?_
  fin_cases a <;> simp [Rect.unit, Rect.emb]

/-- The summand at row `n` and column `k`, of the arguments turned. -/
def cell (P : FVec Ideal S51x51 .f32) (A B : FVec Ideal S51x16384 .f32) (k : Fin 51) (n : Fin 16384) : EReal :=
  (∑ j : Fin 51, P (ix2 k j) * A (ix2 j n)) * Ideal.log (B (ix2 k n) + eps)

/-- A chunk's sum, from the arguments. -/
theorem part_slab (P : FVec Ideal S51x51 .f32) (A B : FVec Ideal S51x16384 .f32) (i : Fin 8) (h) :
    part P (slab (F := Ideal) (i.val * 2048) h A) (slab (F := Ideal) (i.val * 2048) h B)
      = ∑ k : Fin 51, ∑ n : Fin 2048, cell P A B k ⟨i.val * 2048 + n.val, by omega⟩ := by
  unfold part cell
  refine Finset.sum_congr rfl fun k _ => Finset.sum_congr rfl fun n _ => ?_
  have ho : i.val * 2048 + n.val < 16384 := by omega
  rw [slab_at _ h B k n ho]
  congr 1
  exact Finset.sum_congr rfl fun j _ => by rw [slab_at _ h A j n ho]

/-- The total is the sum of all the cells. -/
theorem total_eq (P : FVec Ideal S51x51 .f32) (A B : FVec Ideal S51x16384 .f32) :
    total (F := Ideal) P A B = ∑ k : Fin 51, ∑ n : Fin 16384, cell P A B k n := by
  have e : ∀ k : Fin 51, ∑ n : Fin 16384, cell P A B k n
      = ∑ i : Fin 8, ∑ n : Fin 2048, cell P A B k ⟨i.val * 2048 + n.val, by omega⟩ :=
    fun k => Fin.sum_univ_tiles 8 2048 rfl _
  rw [Finset.sum_congr rfl fun k _ => e k, Finset.sum_comm, Fin.sum_univ_eight]
  rw [← part_slab P A B 0 (by decide), ← part_slab P A B 1 (by decide), ← part_slab P A B 2 (by decide), ← part_slab P A B 3 (by decide),
    ← part_slab P A B 4 (by decide), ← part_slab P A B 5 (by decide), ← part_slab P A B 6 (by decide), ← part_slab P A B 7 (by decide)]
  unfold total
  rw [pay1_eq, pay12_eq, pay10_eq, pay8_eq, pay7_eq, pay4_eq, pay3_eq, pay2_eq]
  rfl

/-- The kernel's result over the extended reals. -/
theorem outcome_at (A B : FVec Ideal S16384x51 .f32) (i : S_.Idx) :
    outcome (F := Ideal) A B i
      = -Ideal.div (∑ k : Fin 51, ∑ n : Fin 16384, (∑ j : Fin 51, matrix (F := Ideal) (ix2 k j) * A (ix2 n j)) * Ideal.log (B (ix2 n k) + eps))
          (Ideal.ofBits .f32 0x46800000#32) := by
  unfold outcome
  rw [total_eq]
  have e : ∀ k n, cell (matrix (F := Ideal)) (turned (F := Ideal) A) (turned (F := Ideal) B) k n
      = (∑ j : Fin 51, matrix (F := Ideal) (ix2 k j) * A (ix2 n j)) * Ideal.log (B (ix2 n k) + eps) := by
    intro k n
    pointwise [cell, turned]
  rw [Finset.sum_congr rfl fun k _ => Finset.sum_congr rfl fun n _ => e k n]
  generalize (∑ k : Fin 51, ∑ n : Fin 16384, (∑ j : Fin 51, matrix (F := Ideal) (ix2 k j) * A (ix2 n j)) * Ideal.log (B (ix2 n k) + eps)) = x
  pointwise [finish]

end Cert.KernelIdeal.Total

end
-- ==== Proof.RefTerm.lean ====
/- The reference's result as a term of its arguments, in small named stages. -/
module

public import proofs.«01_k».proof.Proof.RefRun

@[expose] public section

set_option maxRecDepth 16384

noncomputable section

namespace Cert.ReferenceIdeal.Stages

open Cert.ReferenceIdeal Cert.ReferenceIdeal.Gen Cert.ReferenceIdeal.Value Idealize.ShloMosaic Idealize.ShloMosaic.TcCoe Idealize.SL.Sem

variable {F : FTy → Type} [FloatOps F]

/-- The positions, one copy of the table for each row. -/
def bT : FVec F S16384x51 .f32 :=
  mulf (broadcastInDim S16384x51 ![0, 1] bcast_S1x51_S16384x51_0_1 (shapeCast S1x51 (fun i => FloatOps.ofBits .f32 (lit0 (S51.rowMajor i)) : FVec F S51 .f32) shapeCasts_S51_S1x51))
    (broadcastInDim S16384x51 ![0, 1] bcast_S16384x1_S16384x51_0_1 (broadcastInDim S16384x1 ![] bcast_S_S16384x1 (constant S_ .f32 0x3F800000#32)))

/-- Their floors and ceilings as words. -/
def flT : IVec S16384x51 32 := fptosi 32 (Host.floor (bT (F := F)))
def ceT : IVec S16384x51 32 := fptosi 32 (Host.ceil (bT (F := F)))

/-- The lower and the upper neighbours. -/
def loT : IVec S16384x51 32 :=
  select (andi (cmpi .sgt (ceT (F := F)) (broadcastInDim S16384x51 ![] bcast_S_S16384x51 (constantI S_ 32 0#32))) (cmpi .eq (flT (F := F)) (ceT (F := F))))
    (subi (flT (F := F)) (broadcastInDim S16384x51 ![] bcast_S_S16384x51 (constantI S_ 32 1#32))) (flT (F := F))
def hiT : IVec S16384x51 32 :=
  select (andi (cmpi .slt (loT (F := F)) (broadcastInDim S16384x51 ![] bcast_S_S16384x51 (constantI S_ 32 50#32))) (cmpi .eq (loT (F := F)) (ceT (F := F))))
    (addi (ceT (F := F)) (broadcastInDim S16384x51 ![] bcast_S_S16384x51 (constantI S_ 32 1#32))) (ceT (F := F))

/-- The place where each row starts. -/
def rowT : IVec S16384x51 32 :=
  broadcastInDim S16384x51 ![0, 1] bcast_S16384x1_S16384x51_0_1
    (shapeCast S16384x1 (muli (iotaInDim S16384 32 0) (broadcastInDim S16384 ![] bcast_S_S16384 (constantI S_ 32 51#32))) shapeCasts_S16384_S16384x1)

/-- Columns turned into places of the flat array. -/
def flatT (w : IVec S16384x51 32) : IVec S835584 32 := shapeCast S835584 (addi w rowT) shapeCasts_S16384x51_S835584
def placeT (w : IVec S16384x51 32) : IVec S835584x1 32 :=
  broadcastInDim S835584x1 ![0] bcast_S835584_S835584x1_0
    (select (cmpi .slt (flatT w) (broadcastInDim S835584 ![] bcast_S_S835584 (constantI S_ 32 0#32)))
      (addi (flatT w) (broadcastInDim S835584 ![] bcast_S_S835584 (constantI S_ 32 835584#32))) (flatT w))

/-- What is added at the lower and at the upper places. -/
def lowT (A : FVec F S16384x51 .f32) : FVec F S835584 .f32 :=
  shapeCast S835584 (mulf A (subf (sitofp .f32 (hiT (F := F))) bT)) shapeCasts_S16384x51_S835584
def highT (A : FVec F S16384x51 .f32) : FVec F S835584 .f32 :=
  shapeCast S835584 (mulf A (subf bT (sitofp .f32 (loT (F := F))))) shapeCasts_S16384x51_S835584

/-- The projected array. -/
def skewT (A : FVec F S16384x51 .f32) : FVec F S16384x51 .f32 :=
  shapeCast S16384x51
    (Host.scatterAdd scatter_S835584_S835584x1_S835584_n_0_0_1
      (Host.scatterAdd scatter_S835584_S835584x1_S835584_n_0_0_1 (broadcastInDim S835584 ![] bcast_S_S835584 (constant S_ .f32 0x00000000#32)) (placeT (loT (F := F))) (lowT A))
      (placeT (hiT (F := F))) (highT A)) shapeCasts_S835584_S16384x51

/-- The logarithm's array. -/
def logT (B : FVec F S16384x51 .f32) : FVec F S16384x51 .f32 :=
  Host.log (addf B (broadcastInDim S16384x51 ![] bcast_S_S16384x51 (constant S_ .f32 0x24E69595#32)))

/-- The mean of the row sums, negated. -/
def meanT (X : FVec F S16384x51 .f32) : FVec F S_ .f32 :=
  Host.negf (Host.divf (Host.reduceAdd (Host.reduceAdd X (constant S_ .f32 0x00000000#32) reducesTo_S16384x51_S16384_d1 h_S_)
    (constant S_ .f32 0x00000000#32) reducesTo_S16384_S_d0 h_S_) (constant S_ .f32 0x46800000#32))

/-- The reference's result. -/
def outcome (A B : FVec F S16384x51 .f32) : FVec F S_ .f32 := meanT (mulf (skewT A) (logT B))

set_option maxHeartbeats 2000000 in
/-- The run's result is that term. -/
theorem res_eq (m : (ℓ : Loc nD τ sig) → Buf (Elt F) ℓ) (c : Dev nD) :
    res_main_v64 m c = outcome (m ((c.tc : Thread nD τ).loc main_arg0)) (m ((c.tc : Thread nD τ).loc main_arg1)) := by
  unfold res_main_v64
  rfl

end Cert.ReferenceIdeal.Stages

end
-- ==== Proof.Table.lean ====
/- The two printed tables read as rational numbers: the 51 positions of the reference, and the 51 × 51 matrix of the
   kernel, whose column `j` holds the two weights of position `j` at its lower and its upper neighbour. -/
module

public import proofs.«01_k».proof.Proof.Gen.KernelIdeal
public import proofs.«01_k».proof.Proof.Gen.ReferenceIdeal
public import Idealize.ShloMosaic.PureOps.Ideal
public import Mathlib.Data.Rat.Floor

@[expose] public section

set_option maxRecDepth 16384

noncomputable section

namespace Cert.Table

open Idealize.ShloMosaic

/-- The rational number that a finite 32-bit pattern denotes. -/
def rat (b : BitVec 32) : ℚ :=
  (if b.extractLsb' 31 1 == 1#1 then -1 else 1)
    * (if (b.extractLsb' 23 8).toNat = 0 then (((b.extractLsb' 0 23).toNat : ℕ) : ℚ) / ((2 ^ 149 : ℕ) : ℚ)
        else ((2 ^ 23 + (b.extractLsb' 0 23).toNat : ℕ) : ℚ) * ((2 ^ (b.extractLsb' 23 8).toNat : ℕ) : ℚ) / ((2 ^ 150 : ℕ) : ℚ))

/-- A finite pattern denotes that number. -/
theorem ofBits_eq (b : BitVec 32) (h : (b.extractLsb' 23 8).toNat ≠ 255) : Ideal.ofBits .f32 b = (((rat b : ℚ) : ℝ) : EReal) := by
  unfold Ideal.ofBits Ideal.ieee rat
  dsimp only
  rw [if_neg (by simpa using h)]
  rw [show (8 + 23 : ℕ) = 31 from rfl]
  generalize (b.extractLsb' 31 1 == 1#1) = sg
  generalize (b.extractLsb' 23 8).toNat = ex at h ⊢
  generalize (b.extractLsb' 0 23).toNat = fr
  by_cases h0 : ex = 0
  · rw [if_pos h0, if_pos h0]
    refine congrArg Real.toEReal ?_
    have e : (2 : ℝ) ^ (1 - (2 ^ (8 - 1) - 1) - ((23 : ℕ) : ℤ) : ℤ) = 1 / 2 ^ 149 := by norm_num [zpow_neg]
    rw [e]
    cases sg <;> push_cast <;> simp <;> ring
  · rw [if_neg h0, if_neg h0]
    refine congrArg Real.toEReal ?_
    have e : (2 : ℝ) ^ ((ex : ℤ) - (2 ^ (8 - 1) - 1) - ((23 : ℕ) : ℤ)) = 2 ^ ex / 2 ^ 150 := by
      rw [show ((ex : ℤ) - (2 ^ (8 - 1) - 1) - ((23 : ℕ) : ℤ)) = (ex : ℤ) - (150 : ℕ) by norm_num; ring,
        zpow_sub₀ (by norm_num), zpow_natCast, zpow_natCast]
    rw [e]
    cases sg <;> push_cast <;> simp <;> ring

/-- Position `j` of the reference's table. -/
def pos (j : Fin 51) : ℚ := rat (Cert.ReferenceIdeal.lit0 j)

theorem pos_eq (j : Fin 51) : Ideal.ofBits .f32 (Cert.ReferenceIdeal.lit0 j) = (((pos j : ℚ) : ℝ) : EReal) :=
  ofBits_eq _ ((by decide +kernel : ∀ j : Fin 51, ((Cert.ReferenceIdeal.lit0 j).extractLsb' 23 8).toNat ≠ 255) j)

/-- The words of a position's floor and ceiling. -/
def floorWord (j : Fin 51) : BitVec 32 := BitVec.ofInt 32 ⌊pos j⌋
def ceilWord (j : Fin 51) : BitVec 32 := BitVec.ofInt 32 ⌈pos j⌉

/-- The lower neighbour: the floor, one less where the position is itself a positive whole number. -/
def lowWord (j : Fin 51) : BitVec 32 :=
  Scalar.select (IntOp.andi (IntOp.cmpi .sgt (ceilWord j) 0#32) (IntOp.cmpi .eq (floorWord j) (ceilWord j))) (IntOp.subi (floorWord j) 1#32) (floorWord j)

/-- The upper neighbour: the ceiling, one more where it is not yet above the lower one. -/
def highWord (j : Fin 51) : BitVec 32 :=
  Scalar.select (IntOp.andi (IntOp.cmpi .slt (lowWord j) 50#32) (IntOp.cmpi .eq (lowWord j) (ceilWord j))) (IntOp.addi (ceilWord j) 1#32) (ceilWord j)

theorem floor_small : ∀ j, 0 ≤ ⌊pos j⌋ ∧ ⌊pos j⌋ ≤ 50 := by decide +kernel
theorem ceil_small : ∀ j, 0 ≤ ⌈pos j⌉ ∧ ⌈pos j⌉ ≤ 50 := by decide +kernel

/-- Both neighbours are columns. -/
theorem low_lt : ∀ j, (lowWord j).toNat < 51 := by decide +kernel
theorem high_lt : ∀ j, (highWord j).toNat < 51 := by decide +kernel

/-- The neighbours as columns. -/
def low (j : Fin 51) : Fin 51 := ⟨(lowWord j).toNat, low_lt j⟩
def high (j : Fin 51) : Fin 51 := ⟨(highWord j).toNat, high_lt j⟩

/-- They differ. -/
theorem low_ne_high : ∀ j, low j ≠ high j := by decide +kernel

/-- The weights at the lower and at the upper neighbour. -/
def lowWeight (j : Fin 51) : ℚ := ((highWord j).toInt : ℚ) - pos j
def highWeight (j : Fin 51) : ℚ := pos j - ((lowWord j).toInt : ℚ)

/-- The kernel's matrix holds exactly those weights. -/
theorem matrix_rat : ∀ k j : Fin 51, ∀ h : k.val * 51 + j.val < 2601, rat (Cert.KernelIdeal.lit0 ⟨k.val * 51 + j.val, h⟩)
    = if k = low j then lowWeight j else if k = high j then highWeight j else 0 := by
  decide +kernel

/-- All its words are finite. -/
theorem matrix_finite : ∀ i : Fin 2601, ((Cert.KernelIdeal.lit0 i).extractLsb' 23 8).toNat ≠ 255 := by decide +kernel

end Cert.Table

end
-- ==== Proof.RefRead.lean ====
/- The reference's stages read at an index, over the extended reals. -/
module

public import proofs.«01_k».proof.Proof.RefTerm
public import proofs.«01_k».proof.Proof.Table
public import Idealize.ShloMosaic.Lib.Pointwise
public import Idealize.ShloMosaic.Lib.IdealHost
public import Idealize.ShloMosaic.Lib.Routing.Ops
public import Idealize.ShloMosaic.Lib.Routing.OpsPair

@[expose] public section

set_option maxRecDepth 16384

noncomputable section

namespace Cert.ReferenceIdeal.Stages

open Cert.ReferenceIdeal Cert.ReferenceIdeal.Gen Cert.Table Idealize.ShloMosaic Idealize.ShloMosaic.Pointwise
open scoped BigOperators

/-- A position, whatever the row. -/
theorem bT_at (n : Fin 16384) (j : Fin 51) : bT (F := Ideal) (ix2 n j) = (((pos j : ℚ) : ℝ) : EReal) := by
  rw [← pos_eq]
  have e : ∀ T : FVec Ideal S51 .f32,
      (mulf (broadcastInDim S16384x51 ![0, 1] bcast_S1x51_S16384x51_0_1 (shapeCast S1x51 T shapeCasts_S51_S1x51))
        (broadcastInDim S16384x51 ![0, 1] bcast_S16384x1_S16384x51_0_1 (broadcastInDim S16384x1 ![] bcast_S_S16384x1 (constant S_ .f32 0x3F800000#32)))) (ix2 n j)
        = T (ix1 j) := by
    intro T; pointwise
  unfold bT
  rw [e]
  show Ideal.ofBits .f32 (lit0 (S51.rowMajor (ix1 j))) = _
  refine congrArg (fun i => Ideal.ofBits .f32 (lit0 i)) (Fin.ext ?_)
  exact Shape.rowMajor_val_one _

/-- A small whole number turned into a word. -/
theorem word_of_int (z : ℤ) (h : 0 ≤ z ∧ z ≤ 50) : Ideal.fptosi 32 (((z : ℤ) : ℝ) : EReal) = BitVec.ofInt 32 z := by
  unfold Ideal.fptosi Ideal.toIntClamped
  refine congrArg (BitVec.ofInt 32) ?_
  show max _ (min _ (if (0 : ℝ) ≤ (z : ℝ) then ⌊(z : ℝ)⌋ else ⌈(z : ℝ)⌉)) = z
  rw [Int.floor_intCast, Int.ceil_intCast, ite_self]
  obtain ⟨h0, h1⟩ := h
  rw [min_eq_right (by norm_num; omega), max_eq_right (by norm_num; omega)]

theorem flT_at (n : Fin 16384) (j : Fin 51) : flT (F := Ideal) (ix2 n j) = floorWord j := by
  have e : flT (F := Ideal) (ix2 n j) = Ideal.fptosi 32 (Ideal.liftRound Int.floor (bT (F := Ideal) (ix2 n j))) := rfl
  rw [e, bT_at]
  show Ideal.fptosi 32 (((⌊((pos j : ℚ) : ℝ)⌋ : ℤ) : ℝ) : EReal) = _
  rw [Rat.floor_cast]
  exact word_of_int _ (floor_small j)

theorem ceT_at (n : Fin 16384) (j : Fin 51) : ceT (F := Ideal) (ix2 n j) = ceilWord j := by
  have e : ceT (F := Ideal) (ix2 n j) = Ideal.fptosi 32 (Ideal.liftRound Int.ceil (bT (F := Ideal) (ix2 n j))) := rfl
  rw [e, bT_at]
  show Ideal.fptosi 32 (((⌈((pos j : ℚ) : ℝ)⌉ : ℤ) : ℝ) : EReal) = _
  rw [Rat.ceil_cast]
  exact word_of_int _ (ceil_small j)

theorem loT_at (n : Fin 16384) (j : Fin 51) : loT (F := Ideal) (ix2 n j) = lowWord j := by
  unfold lowWord
  rw [← flT_at n, ← ceT_at n]
  rfl

theorem hiT_at (n : Fin 16384) (j : Fin 51) : hiT (F := Ideal) (ix2 n j) = highWord j := by
  unfold highWord
  rw [← loT_at n, ← ceT_at n]
  rfl

/-- The place where row `n` starts. -/
theorem rowT_at (n : Fin 16384) (j : Fin 51) : rowT (ix2 n j) = BitVec.ofNat 32 (n.val * 51) := by
  have e : rowT (ix2 n j) = BitVec.ofNat 32 n.val * 51#32 := by
    pointwise [rowT]
    rfl
  rw [e, BitVec.ofNat_mul]

/-- The flat place of row `n` and column `j`. -/
def place (n : Fin 16384) (j : Fin 51) : Fin 835584 := ⟨n.val * 51 + j.val, by omega⟩

/-- The word at a flat place, of an array of columns. -/
theorem placeT_at (w : IVec S16384x51 32) (n : Fin 16384) (j c : Fin 51) (h : w (ix2 n j) = BitVec.ofNat 32 c.val) :
    placeT w (ix2 (place n j) 0) = BitVec.ofNat 32 (place n c).val := by
  have f : flatT w (ix1 (place n j)) = BitVec.ofNat 32 (place n c).val := by
    unfold flatT
    refine (Routing.cast21 (addi w rowT) shapeCasts_S16384x51_S835584 n j (place n j) rfl).trans ?_
    show w (ix2 n j) + rowT (ix2 n j) = _
    rw [h, rowT_at, ← BitVec.ofNat_add, Nat.add_comm]
    rfl
  have e : placeT w (ix2 (place n j) 0) = Scalar.select (IntOp.cmpi .slt (flatT w (ix1 (place n j))) 0#32) (flatT w (ix1 (place n j)) + 835584#32) (flatT w (ix1 (place n j))) := by
    unfold placeT
    generalize flatT w = x
    pointwise
    rfl
  rw [e, f]
  refine Routing.wrap_of_lt _ _ ?_
  have := (place n c).isLt
  rw [BitVec.toNat_ofNat]
  omega

/-- Flat places and pairs of a row and a column are the same. -/
theorem place_inj (n n' : Fin 16384) (j j' : Fin 51) : place n j = place n' j' ↔ n = n' ∧ j = j' := by
  unfold place
  constructor
  · intro h
    have h := congrArg Fin.val h
    change n.val * 51 + j.val = n'.val * 51 + j'.val at h
    exact ⟨Fin.ext (by omega), Fin.ext (by omega)⟩
  · rintro ⟨rfl, rfl⟩; rfl

/-- A sum over flat places is the sum over rows and columns. -/
theorem sum_place (g : Fin 835584 → EReal) : ∑ p, g p = ∑ n : Fin 16384, ∑ j : Fin 51, g (place n j) :=
  Fin.sum_univ_tiles 16384 51 rfl g

/-- An accumulation by columns, read at row `n` and column `k`: what was there, and the entries of the row whose column word is `k`. -/
theorem scatter_read (x : FVec Ideal S835584 .f32) (w : IVec S16384x51 32) (col : Fin 51 → Fin 51)
    (hw : ∀ n j, w (ix2 n j) = BitVec.ofNat 32 (col j).val) (U : FVec Ideal S16384x51 .f32) (n : Fin 16384) (k : Fin 51) :
    Host.scatterAdd scatter_S835584_S835584x1_S835584_n_0_0_1 x (placeT w) (shapeCast S835584 U shapeCasts_S16384x51_S835584) (ix1 (place n k))
      = x (ix1 (place n k)) + ∑ j : Fin 51, if col j = k then U (ix2 n j) else 0 := by
  show x (ix1 (place n k)) + ∑ p ∈ Finset.univ.filter (fun p => scatter_S835584_S835584x1_S835584_n_0_0_1.resultIdx? p (placeT w) = some (ix1 (place n k))),
      shapeCast S835584 U shapeCasts_S16384x51_S835584 p = _
  refine congrArg (x (ix1 (place n k)) + ·) ?_
  rw [Finset.sum_filter, sum_idx1, sum_place]
  have lands : ∀ n' j, scatter_S835584_S835584x1_S835584_n_0_0_1.resultIdx? (ix1 (place n' j)) (placeT w) = some (ix1 (place n k)) ↔ n' = n ∧ col j = k := by
    intro n' j
    rw [← place_inj n' n (col j) k]
    refine (Routing.scatter_lands_signed scatter_S835584_S835584x1_S835584_n_0_0_1 rfl rfl rfl (placeT w) (place n' j) (place n k)).trans ?_
    have e := placeT_at w n' j (col j) (hw n' j)
    rw [show placeT w (ValueIdx.ix2 (place n' j) (0 : Fin 1)) = _ from e]
    have h1 := (place n' (col j)).isLt
    rw [StableHlo.Predicate.toInt_ofNat_small _ (by omega)]
    constructor
    · intro h; exact Fin.ext (by exact_mod_cast h)
    · intro h; rw [h]
  rw [Finset.sum_eq_single n]
  · refine Finset.sum_congr rfl fun j _ => ?_
    have e : shapeCast S835584 U shapeCasts_S16384x51_S835584 (ix1 (place n j)) = U (ix2 n j) :=
      Routing.cast21 U shapeCasts_S16384x51_S835584 n j (place n j) rfl
    rw [e]
    exact if_congr ((lands n j).trans ⟨fun h => h.2, fun h => ⟨rfl, h⟩⟩) rfl rfl
  · intro n' _ hn
    exact Finset.sum_eq_zero fun j _ => if_neg fun h => hn ((lands n' j).1 h).1
  · intro h; exact absurd (Finset.mem_univ _) h

/-- The words of the neighbours, from the columns. -/
theorem low_word (j : Fin 51) : lowWord j = BitVec.ofNat 32 (low j).val := by simp [low]
theorem high_word (j : Fin 51) : highWord j = BitVec.ofNat 32 (high j).val := by simp [high]

/-- The projected array at row `n` and column `k`. -/
theorem skewT_at (A : FVec Ideal S16384x51 .f32) (n : Fin 16384) (k : Fin 51) :
    skewT (F := Ideal) A (ix2 n k)
      = (∑ j : Fin 51, if low j = k then A (ix2 n j) * (((lowWeight j : ℚ) : ℝ) : EReal) else 0)
        + ∑ j : Fin 51, if high j = k then A (ix2 n j) * (((highWeight j : ℚ) : ℝ) : EReal) else 0 := by
  unfold skewT
  refine (Routing.cast12 _ shapeCasts_S835584_S16384x51 n k (place n k) rfl).trans ?_
  unfold highT lowT
  refine (scatter_read _ (hiT (F := Ideal)) high (fun n j => (hiT_at n j).trans (high_word j)) _ n k).trans ?_
  refine congrArg₂ (· + ·) ?_ ?_
  · refine (scatter_read _ (loT (F := Ideal)) low (fun n j => (loT_at n j).trans (low_word j)) _ n k).trans ?_
    have z : (broadcastInDim S835584 ![] bcast_S_S835584 (constant S_ .f32 0x00000000#32) : FVec Ideal S835584 .f32) (ix1 (place n k)) = 0 := by
      pointwise
    rw [z, zero_add]
    refine Finset.sum_congr rfl fun j _ => ?_
    have e : (mulf A (subf (sitofp .f32 (hiT (F := Ideal))) bT) : FVec Ideal S16384x51 .f32) (ix2 n j)
        = A (ix2 n j) * ((((hiT (F := Ideal) (ix2 n j)).toInt : ℝ) : EReal) - bT (F := Ideal) (ix2 n j)) := rfl
    rw [e, hiT_at, bT_at, ← EReal.coe_sub, lowWeight, Rat.cast_sub, Rat.cast_intCast]
  · refine Finset.sum_congr rfl fun j _ => ?_
    have e : (mulf A (subf bT (sitofp .f32 (loT (F := Ideal)))) : FVec Ideal S16384x51 .f32) (ix2 n j)
        = A (ix2 n j) * (bT (F := Ideal) (ix2 n j) - (((loT (F := Ideal) (ix2 n j)).toInt : ℝ) : EReal)) := rfl
    rw [e, loT_at, bT_at, ← EReal.coe_sub, highWeight, Rat.cast_sub, Rat.cast_intCast]

/-- The reference's result over the extended reals. -/
theorem outcome_at (A B : FVec Ideal S16384x51 .f32) (i : S_.Idx) :
    outcome (F := Ideal) A B i
      = -Ideal.div (∑ n : Fin 16384, ∑ k : Fin 51, skewT (F := Ideal) A (ix2 n k) * Ideal.log (B (ix2 n k) + Ideal.ofBits .f32 0x24E69595#32))
          (Ideal.ofBits .f32 0x46800000#32) := by
  unfold outcome
  generalize skewT (F := Ideal) A = X
  pointwise [meanT, logT]

end Cert.ReferenceIdeal.Stages

end
-- ==== Proof.Equation.lean ====
/- The kernel and the reference compute the same extended real from the same arguments. -/
module

public import proofs.«01_k».proof.Proof.KernelSum
public import proofs.«01_k».proof.Proof.RefRead

@[expose] public section

set_option maxRecDepth 16384

noncomputable section

namespace Cert.Equation

open Cert.Table Idealize.ShloMosaic Idealize.ShloMosaic.Pointwise
open scoped BigOperators

/-- The kernel's matrix at an index: the lower weight, the upper weight, or zero. -/
theorem matrix_at (k j : Fin 51) : Cert.KernelIdeal.Body.matrix (F := Ideal) (ix2 k j)
    = (((if k = low j then lowWeight j else if k = high j then highWeight j else 0 : ℚ) : ℝ) : EReal) := by
  have hlt : k.val * 51 + j.val < 2601 := by omega
  have e : Cert.KernelIdeal.S51x51.rowMajor (ix2 k j) = (⟨k.val * 51 + j.val, hlt⟩ : Fin 2601) :=
    Fin.ext (Shape.rowMajor_val_two _)
  show Ideal.ofBits .f32 (Cert.KernelIdeal.lit0 (Cert.KernelIdeal.S51x51.rowMajor (ix2 k j))) = _
  rw [e, ofBits_eq _ (matrix_finite _), matrix_rat k j hlt]

/-- One product with the matrix is what the two accumulations add to the cell. -/
theorem term_eq (k j : Fin 51) (a : EReal) : Cert.KernelIdeal.Body.matrix (F := Ideal) (ix2 k j) * a
    = (if low j = k then a * (((lowWeight j : ℚ) : ℝ) : EReal) else 0) + (if high j = k then a * (((highWeight j : ℚ) : ℝ) : EReal) else 0) := by
  rw [matrix_at, mul_comm]
  by_cases h : low j = k
  · have h' : high j ≠ k := fun q => low_ne_high j (h.trans q.symm)
    rw [if_pos h, if_neg h', if_pos h.symm, add_zero]
  · rw [if_neg h, if_neg fun q => h q.symm, zero_add]
    by_cases h' : high j = k
    · rw [if_pos h', if_pos h'.symm]
    · rw [if_neg h', if_neg fun q => h' q.symm]; simp

/-- So the matrix product is the projected array. -/
theorem project_eq (A : FVec Ideal Cert.KernelIdeal.S16384x51 .f32) (n : Fin 16384) (k : Fin 51) :
    ∑ j : Fin 51, Cert.KernelIdeal.Body.matrix (F := Ideal) (ix2 k j) * A (ix2 n j) = Cert.ReferenceIdeal.Stages.skewT (F := Ideal) A (ix2 n k) := by
  rw [Cert.ReferenceIdeal.Stages.skewT_at, ← Finset.sum_add_distrib]
  exact Finset.sum_congr rfl fun j _ => term_eq k j _

/-- The two results are equal. -/
theorem outcome_eq (A B : FVec Ideal Cert.KernelIdeal.S16384x51 .f32) :
    Cert.KernelIdeal.Body.outcome (F := Ideal) A B = Cert.ReferenceIdeal.Stages.outcome (F := Ideal) A B := by
  funext i
  rw [Cert.KernelIdeal.Total.outcome_at]
  refine Eq.trans ?_ (Cert.ReferenceIdeal.Stages.outcome_at A B i).symm
  rw [Finset.sum_comm]
  refine congrArg (fun x => -Ideal.div x (Ideal.ofBits .f32 0x46800000#32)) ?_
  exact Finset.sum_congr rfl fun n _ => Finset.sum_congr rfl fun k _ => by rw [project_eq]

end Cert.Equation

end
-- ==== Proof.lean ====
module

public import proofs.«01_k».proof.Proof.RefRun
public import proofs.«01_k».proof.Proof.KernelRun
public import proofs.«01_k».proof.Proof.Equation
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The idealized kernel runs, keeps its arguments, and leaves every counter at zero. -/
theorem kernelIdeal_quiescent : Cert.quiescent_KernelIdeal (hKernelIdeal := Cert.KernelIdeal.Gen.facts) :=
  fun m g _ => Cert.KernelIdeal.Body.run_kept (F := Ideal) m g

/-- So does the reference. -/
theorem reference_quiescent : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩) (Cert.ReferenceIdeal.Value.run (F := Ideal) m g)

/-- On the same arguments the idealized kernel and the reference end with the same result. -/
theorem same_result : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Body.outcome (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h => h.1) (Cert.KernelIdeal.Body.run (F := Ideal) m g)
  · refine (θ_run Cert.ReferenceIdeal.defs _ _).mono (fun _ h c => ⟨(h c).1.trans ?_, (h c).2⟩) (Cert.ReferenceIdeal.Value.run (F := Ideal) m' g')
    rw [Cert.ReferenceIdeal.Stages.res_eq, (hagree c).1, (hagree c).2]
    exact (Cert.Equation.outcome_eq _ _).symm

/-- All the claims. -/
theorem claim : Cert.Claim :=
  ⟨Cert.Kernel.Gen.facts, Cert.KernelIdeal.Gen.facts, Cert.ReferenceIdeal.Gen.facts,
    Cert.Kernel.Same.quiescent, kernelIdeal_quiescent, reference_quiescent, trivial, same_result⟩

end Cert.Proof

end
